-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1024x3584 : Shape := ⟨3, ![4, 1024, 3584]⟩
abbrev S4x1024x1 : Shape := ⟨3, ![4, 1024, 1]⟩
abbrev S3584x1280 : Shape := ⟨2, ![3584, 1280]⟩
abbrev S1280 : Shape := ⟨1, ![1280]⟩
abbrev S4x1024x1280 : Shape := ⟨3, ![4, 1024, 1280]⟩
abbrev S4096x3584 : Shape := ⟨2, ![4096, 3584]⟩
abbrev S32x128 : Shape := ⟨2, ![32, 128]⟩
abbrev S10x128 : Shape := ⟨2, ![10, 128]⟩
abbrev S4096x1280 : Shape := ⟨2, ![4096, 1280]⟩
abbrev S512x3584 : Shape := ⟨2, ![512, 3584]⟩
abbrev S512x1280 : Shape := ⟨2, ![512, 1280]⟩
abbrev S4x128 : Shape := ⟨2, ![4, 128]⟩
abbrev S1x128 : Shape := ⟨2, ![1, 128]⟩
abbrev S128x128 : Shape := ⟨2, ![128, 128]⟩
abbrev S512x128 : Shape := ⟨2, ![512, 128]⟩
abbrev S1x1280 : Shape := ⟨2, ![1, 1280]⟩

abbrev nBuf : Space → Nat
  | .hbm => 11
  | .vmem => 9
  | .smem => 0
  | _ => 0

abbrev bufTy : (tb : Table) → Fin (tcTables nBuf tb) → BufTy
  | .hbm, ⟨0, _⟩ => ⟨S4x1024x3584, .fp8e4m3⟩
  | .hbm, ⟨1, _⟩ => ⟨S4x1024x1, .f32⟩
  | .hbm, ⟨2, _⟩ => ⟨S3584x1280, .fp8e4m3⟩
  | .hbm, ⟨3, _⟩ => ⟨S1280, .f32⟩
  | .hbm, ⟨4, _⟩ => ⟨S4x1024x1280, .bf16⟩
  | .hbm, ⟨5, _⟩ => ⟨S4096x3584, .fp8e4m3⟩
  | .hbm, ⟨6, _⟩ => ⟨S32x128, .f32⟩
  | .hbm, ⟨7, _⟩ => ⟨S10x128, .f32⟩
  | .hbm, ⟨8, _⟩ => ⟨S4096x1280, .bf16⟩
  | .hbm, ⟨9, _⟩ => ⟨S4096x1280, .bf16⟩
  | .hbm, ⟨10, _⟩ => ⟨S4x1024x1280, .bf16⟩
  | .local _ .vmem, ⟨0, _⟩ => ⟨S512x3584, .fp8e4m3⟩
  | .local _ .vmem, ⟨1, _⟩ => ⟨S512x3584, .fp8e4m3⟩
  | .local _ .vmem, ⟨2, _⟩ => ⟨S32x128, .f32⟩
  | .local _ .vmem, ⟨3, _⟩ => ⟨S3584x1280, .fp8e4m3⟩
  | .local _ .vmem, ⟨4, _⟩ => ⟨S10x128, .f32⟩
  | .local _ .vmem, ⟨5, _⟩ => ⟨S512x1280, .bf16⟩
  | .local _ .vmem, ⟨6, _⟩ => ⟨S512x1280, .bf16⟩
  | .local _ .vmem, ⟨7, _⟩ => ⟨S512x1280, .bf16⟩
  | .local _ .vmem, ⟨8, _⟩ => ⟨S512x1280, .bf16⟩
  | _, _ => ⟨S4x1024x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c4_i32 : BitVec 32 := 4#32
  let v4 : BitVec 32 := Scalar.muli arg0 c4_i32
  let v5 : Index := Scalar.indexCast v4
  let c0_3 : Index := 0#32
  ![v5.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3584 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3584x1280 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1280 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4x1024x3584 : Shape := ⟨3, ![4, 1024, 3584]⟩
abbrev S4x1024x1 : Shape := ⟨3, ![4, 1024, 1]⟩
abbrev S3584x1280 : Shape := ⟨2, ![3584, 1280]⟩
abbrev S1280 : Shape := ⟨1, ![1280]⟩
abbrev S4x1024x1280 : Shape := ⟨3, ![4, 1024, 1280]⟩
abbrev S1x1x1280 : Shape := ⟨3, ![1, 1, 1280]⟩

abbrev nBuf : Space → Nat
  | .hbm => 6
  | .vmem => 6
  | .smem => 0
  | _ => 0

abbrev bufTy : (tb : Table) → Fin (tcTables nBuf tb) → BufTy
  | .hbm, ⟨0, _⟩ => ⟨S4x1024x3584, .fp8e4m3⟩
  | .hbm, ⟨1, _⟩ => ⟨S4x1024x1, .f32⟩
  | .hbm, ⟨2, _⟩ => ⟨S3584x1280, .fp8e4m3⟩
  | .hbm, ⟨3, _⟩ => ⟨S1280, .f32⟩
  | .hbm, ⟨4, _⟩ => ⟨S4x1024x1280, .bf16⟩
  | .hbm, ⟨5, _⟩ => ⟨S4x1024x1280, .bf16⟩
  | .local _ .vmem, ⟨0, _⟩ => ⟨S4x1024x3584, .fp8e4m3⟩
  | .local _ .vmem, ⟨1, _⟩ => ⟨S4x1024x1, .f32⟩
  | .local _ .vmem, ⟨2, _⟩ => ⟨S3584x1280, .fp8e4m3⟩
  | .local _ .vmem, ⟨3, _⟩ => ⟨S1280, .f32⟩
  | .local _ .vmem, ⟨4, _⟩ => ⟨S4x1024x1280, .bf16⟩
  | .local _ .vmem, ⟨5, _⟩ => ⟨S4x1024x1280, .bf16⟩
  | _, _ => ⟨S4x1024x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4x1024x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x1280 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1024x1280 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x1024x1280 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Block.lean ====
/- What one grid point's body computes, entry by entry: the product of its row block with the weights, times the row's
   scale, times the column's scale, plus the residual. -/
module

public import proofs.«01_k».proof.Proof.Gen.KernelIdeal.Skeleton
public import Idealize.ShloMosaic.Lib.Pointwise

@[expose] public section

set_option maxRecDepth 16384

noncomputable section

namespace Cert.Hand

open Cert.KernelIdeal Cert.KernelIdeal.Gen Idealize.ShloMosaic Idealize.SL.Sem

variable {F : FTy → Type} [FloatOps F]

/-- One row of 128 scales, spread down the rows of a square: entry `(r, l)` of the square is scale `r`. -/
def square (v : FVec F S1x128 .f32) : FVec F S128x128 .f32 :=
  transpose S128x128 [1, 0] (broadcastTo S128x128 (shapeCast S1x128 v shapeCasts_S1x128_S1x128) broadcasts_S1x128_S128x128)
    transposes_S128x128_p1_0_S128x128

/-- The row scales of a block as a column of 512 rows, 128 lanes wide: the four squares on top of one another. -/
def rowScales (v : Vec F S4x128 .f32) : FVec F S512x128 .f32 :=
  have v7 : FVec F S4x128 .f32 := shapeCast S4x128 v shapeCasts_S4x128_S4x128
  concatenate S512x128 0
    [⟨S128x128, square (extractStridedSlice S1x128 ![0, 0] v7 slices_S4x128_o0_0_S1x128)⟩,
     ⟨S128x128, square (extractStridedSlice S1x128 ![1, 0] v7 slices_S4x128_o1_0_S1x128)⟩,
     ⟨S128x128, square (extractStridedSlice S1x128 ![2, 0] v7 slices_S4x128_o2_0_S1x128)⟩,
     ⟨S128x128, square (extractStridedSlice S1x128 ![3, 0] v7 slices_S4x128_o3_0_S1x128)⟩]
    concatenates_S128x128_S128x128_S128x128_S128x128_S512x128_d0

/-- Ten copies of a 128-lane column side by side. -/
def tenWide (v : FVec F S512x128 .f32) : FVec F S512x1280 .f32 :=
  concatenate S512x1280 1 [⟨S512x128, v⟩, ⟨S512x128, v⟩, ⟨S512x128, v⟩, ⟨S512x128, v⟩, ⟨S512x128, v⟩, ⟨S512x128, v⟩, ⟨S512x128, v⟩, ⟨S512x128, v⟩, ⟨S512x128, v⟩, ⟨S512x128, v⟩]
    concatenates_S512x128_S512x128_S512x128_S512x128_S512x128_S512x128_S512x128_S512x128_S512x128_S512x128_S512x1280_d1

/-- The column scales as one row of 1280 lanes: the ten rows of 128 end to end. -/
def colScales (v : Vec F S10x128 .f32) : FVec F S1x1280 .f32 :=
  have v27 : FVec F S10x128 .f32 := shapeCast S10x128 v shapeCasts_S10x128_S10x128
  concatenate S1x1280 1
    [⟨S1x128, extractStridedSlice S1x128 ![0, 0] v27 slices_S10x128_o0_0_S1x128⟩,
     ⟨S1x128, extractStridedSlice S1x128 ![1, 0] v27 slices_S10x128_o1_0_S1x128⟩,
     ⟨S1x128, extractStridedSlice S1x128 ![2, 0] v27 slices_S10x128_o2_0_S1x128⟩,
     ⟨S1x128, extractStridedSlice S1x128 ![3, 0] v27 slices_S10x128_o3_0_S1x128⟩,
     ⟨S1x128, extractStridedSlice S1x128 ![4, 0] v27 slices_S10x128_o4_0_S1x128⟩,
     ⟨S1x128, extractStridedSlice S1x128 ![5, 0] v27 slices_S10x128_o5_0_S1x128⟩,
     ⟨S1x128, extractStridedSlice S1x128 ![6, 0] v27 slices_S10x128_o6_0_S1x128⟩,
     ⟨S1x128, extractStridedSlice S1x128 ![7, 0] v27 slices_S10x128_o7_0_S1x128⟩,
     ⟨S1x128, extractStridedSlice S1x128 ![8, 0] v27 slices_S10x128_o8_0_S1x128⟩,
     ⟨S1x128, extractStridedSlice S1x128 ![9, 0] v27 slices_S10x128_o9_0_S1x128⟩]
    concatenates_S1x128_S1x128_S1x128_S1x128_S1x128_S1x128_S1x128_S1x128_S1x128_S1x128_S1x1280_d1

/-- The value the body stores, with its two scale arrays named. -/
theorem pay_eq (x : Vec F S512x3584 .fp8e4m3) (w : Vec F S3584x1280 .fp8e4m3) (xs : Vec F S4x128 .f32)
    (ws : Vec F S10x128 .f32) (res : Vec F S512x1280 .bf16) :
    k0_pay1 x w xs ws res =
      truncf .bf16 (addf (mulf (mulf (matmul dot_S512x3584_S3584x1280_S512x1280_1_0_0_1_n_n none
          (shapeCast S512x3584 x shapeCasts_S512x3584_S512x3584) w (constant S512x1280 .f32 0x00000000#32)) (tenWide (rowScales xs)))
          (broadcastTo S512x1280 (colScales ws) broadcasts_S1x1280_S512x1280))
        (extf .f32 (shapeCast S512x1280 res shapeCasts_S512x1280_S512x1280) bitsLt_bf16_f32)) bitsLt_bf16_f32 := rfl

/-- Entry `(r, l)` of a square is the row's scale `r`. -/
theorem square_apply (v : FVec F S1x128 .f32) (r l : Fin 128) : square v (ix2 r l) = v (ix2 0 r) := by
  pointwise [square]

/-- Row `r` of the stacked squares reads scale `r % 128` of scale row `r / 128`. -/
theorem rowScales_apply (v : Vec F S4x128 .f32) (r : Fin 512) (l : Fin 128) :
    rowScales v (ix2 r l) = v (ix2 ⟨r.val / 128, by omega⟩ ⟨r.val % 128, by omega⟩) := by
  pointwise [rowScales, square]
  repeat' split
  all_goals refine congrArg v (congrArg₂ ix2 (Fin.ext ?_) (Fin.ext ?_))
  all_goals (simp; try omega)

/-- Lane `l` of ten copies side by side is lane `l % 128` of the one copied. -/
theorem tenWide_apply (v : FVec F S512x128 .f32) (r : Fin 512) (l : Fin 1280) :
    tenWide v (ix2 r l) = v (ix2 r ⟨l.val % 128, by omega⟩) := by
  pointwise [tenWide]
  repeat' split
  all_goals refine congrArg v (congrArg₂ ix2 (Fin.ext ?_) (Fin.ext ?_))
  all_goals (simp; try omega)

set_option maxHeartbeats 1000000 in
/-- Lane `l` of the column scales laid end to end is scale `l % 128` of scale row `l / 128`. -/
theorem colScales_apply (v : Vec F S10x128 .f32) (l : Fin 1280) :
    colScales v (ix2 0 l) = v (ix2 ⟨l.val / 128, by omega⟩ ⟨l.val % 128, by omega⟩) := by
  pointwise [colScales]
  repeat' split
  all_goals refine congrArg v (congrArg₂ ix2 (Fin.ext ?_) (Fin.ext ?_))
  all_goals (simp; try omega)

/-- Entry `(r, l)` of the block the body stores: the row's product with the column, times the row's scale, times the
    column's scale, plus the residual. -/
theorem pay_apply (x : Vec Ideal S512x3584 .fp8e4m3) (w : Vec Ideal S3584x1280 .fp8e4m3) (xs : Vec Ideal S4x128 .f32)
    (ws : Vec Ideal S10x128 .f32) (res : Vec Ideal S512x1280 .bf16) (r : Fin 512) (l : Fin 1280) :
    k0_pay1 (F := Ideal) x w xs ws res (ix2 r l) =
      (((∑ k : Fin 3584, (x (ix2 r k) : EReal) * w (ix2 k l))
        * xs (ix2 ⟨r.val / 128, by omega⟩ ⟨r.val % 128, by omega⟩)
        * ws (ix2 ⟨l.val / 128, by omega⟩ ⟨l.val % 128, by omega⟩) + res (ix2 r l) : EReal)) := by
  rw [pay_eq]
  pointwise [tenWide_apply, rowScales_apply, colScales_apply]

end Cert.Hand

end
-- ==== Proof.Array.lean ====
/- What the kernel's result array holds after the run: the eight blocks of rows are the rows of one array, stated as a function
   of the arrays the grid reads; and the arguments those arrays are. -/
module

public import proofs.«01_k».proof.Proof.Block
public import proofs.«01_k».proof.Proof.Gen.KernelIdeal.Frame
public import Idealize.ShloMosaic.Lib.Pipeline.ValueKit
public import Idealize.ShloMosaic.Lib.Pipeline.ValueKit.Point

@[expose] public section

set_option maxRecDepth 16384

noncomputable section

namespace Cert.Hand

open Cert.KernelIdeal Cert.KernelIdeal.Gen Idealize.ShloMosaic Idealize.ShloMosaic.TcCoe Idealize.SL.Sem
open Idealize.ShloMosaic.Pipeline (Dat)

/-- The array of 4096 rows that the eight blocks make up: row `i`'s product with the weights, times scale `i` of the row scales
    (which lie 128 to a row), times the column's scale (128 to a row), plus the residual. -/
def rows (X : Vec Ideal S4096x3584 .fp8e4m3) (xs : Vec Ideal S32x128 .f32) (W : Vec Ideal S3584x1280 .fp8e4m3)
    (ws : Vec Ideal S10x128 .f32) (res : Vec Ideal S4096x1280 .bf16) (i : Fin 4096) (l : Fin 1280) : EReal :=
  (∑ k : Fin 3584, (X (ix2 i k) : EReal) * W (ix2 k l))
    * xs (ix2 ⟨i.val / 128, by omega⟩ ⟨i.val % 128, by omega⟩)
    * ws (ix2 ⟨l.val / 128, by omega⟩ ⟨l.val % 128, by omega⟩) + res (ix2 i l)

/-- Where each window's block lies at point `t`: the inputs and the output that move take block `t` of the rows, the others
    their whole array. -/
theorem idx : ∀ t : Fin cfg0.N,
    win0_0.index t = ![t.val, 0] ∧ win0_1.index t = ![0, 0] ∧ win0_2.index t = ![0, 0] ∧ win0_3.index t = ![0, 0]
      ∧ win0_4.index t = ![t.val, 0] ∧ win0_5.index t = ![t.val, 0] :=
  (by decide +kernel : ∀ t : Fin grid0.N, _)

/-- The rows of the row-scale array that point `t` reads start at `4 * t`. -/
theorem off1 : ∀ t : Fin cfg0.N, k0_off1 (grid0.coords t) = ![4 * t.val, 0] :=
  (by decide +kernel : ∀ t : Fin grid0.N, _)

/-- Row `r` of block `t` is one of the 4096 rows. -/
theorem row_lt (t : Fin cfg0.N) (r : Fin 512) : 512 * t.val + r.val < 4096 := by
  have : t.val < 8 := t.isLt
  omega

variable (m : (ℓ : Loc nD τ sig) → Buf (Elt Ideal) ℓ)

/-- Row `r` of the activation block at point `t` is row `512 * t + r` of the activations. -/
theorem x_block (c : Dev nD) (t : Fin cfg0.N) (r : Fin 512) (k : Fin 3584) :
    (iblk m c 0 t : Vec Ideal S512x3584 .fp8e4m3) (ix2 r k) = V m c main_v0 (ix2 ⟨512 * t.val + r.val, row_lt t r⟩ k) := by
  obtain ⟨e0, e1, e2, e3, e4, -⟩ := idx t
  blk_ext [iblk, e0]

/-- The weights are read whole at every point. -/
theorem w_block (c : Dev nD) (t : Fin cfg0.N) (k : Fin 3584) (l : Fin 1280) :
    (iblk m c 2 t : Vec Ideal S3584x1280 .fp8e4m3) (ix2 k l) = V m c main_arg2 (ix2 k l) := by
  obtain ⟨e0, e1, e2, e3, e4, -⟩ := idx t
  blk_ext [iblk, e2]

/-- The row scales are staged whole at every point. -/
theorem xs_block (c : Dev nD) (t : Fin cfg0.N) (g : Fin 32) (n : Fin 128) :
    (iblk m c 1 t : Vec Ideal S32x128 .f32) (ix2 g n) = V m c main_v1 (ix2 g n) := by
  obtain ⟨e0, e1, e2, e3, e4, -⟩ := idx t
  blk_ext [iblk, e1]

/-- The four rows of row scales that the body reads at point `t`: row `g` of them is row `4 * t + g` of the staged array. -/
theorem xs_rows (v : Vec Ideal S32x128 .f32) (t : Fin cfg0.N) (inb) (g : Fin 4) (n : Fin 128) (h : 4 * t.val + g.val < 32) :
    View.ld v (Rect.unit (s := S32x128) (k0_off1 (grid0.coords t)) S4x128.size inb) (ix2 g n) = v (ix2 ⟨4 * t.val + g.val, h⟩ n) := by
  refine congrArg v (funext fun a => Fin.ext ?_)
  refine (Rect.idx_unit_val ..).trans ((congrArg (· + _) (congrFun (off1 t) a)).trans ?_)
  match a with
  | ⟨0, _⟩ => rfl
  | ⟨1, _⟩ => exact Nat.zero_add _

/-- The column scales are staged whole at every point. -/
theorem ws_block (c : Dev nD) (t : Fin cfg0.N) (g : Fin 10) (n : Fin 128) :
    (iblk m c 3 t : Vec Ideal S10x128 .f32) (ix2 g n) = V m c main_v2 (ix2 g n) := by
  obtain ⟨e0, e1, e2, e3, e4, -⟩ := idx t
  blk_ext [iblk, e3]

/-- Row `r` of the residual block at point `t` is row `512 * t + r` of the residual. -/
theorem res_block (c : Dev nD) (t : Fin cfg0.N) (r : Fin 512) (l : Fin 1280) :
    (iblk m c 4 t : Vec Ideal S512x1280 .bf16) (ix2 r l) = V m c main_v3 (ix2 ⟨512 * t.val + r.val, row_lt t r⟩ l) := by
  obtain ⟨e0, e1, e2, e3, e4, -⟩ := idx t
  blk_ext [iblk, e4]

/-- The block point `t` stores is block `t` of the rows. -/
theorem block_eq (c : Dev nD) (t : Fin cfg0.N) (inb) (r : Fin 512) (l : Fin 1280) :
    k0_pay1 (F := Ideal) (iblk m c 0 t) (iblk m c 2 t)
        (View.ld (iblk m c 1 t) (Rect.unit (s := S32x128) (k0_off1 (grid0.coords t)) S4x128.size inb)) (iblk m c 3 t) (iblk m c 4 t) (ix2 r l)
      = rows (V m c main_v0) (V m c main_v1) (V m c main_arg2) (V m c main_v2) (V m c main_v3)
          ⟨512 * t.val + r.val, row_lt t r⟩ l := by
  have ht : t.val < 8 := t.isLt
  refine (pay_apply ..).trans ?_
  unfold rows
  refine Ideal.add_congr (Ideal.mul_congr (Ideal.mul_congr (Finset.sum_congr rfl fun k _ =>
    Ideal.mul_congr (x_block m c t r k) (w_block m c t k l)) ?_) (ws_block m c t _ _)) (res_block m c t r l)
  refine (xs_rows _ t inb _ _ (by omega)).trans ((xs_block m c t _ _).trans ?_)
  exact congrArg (V m c main_v1) (congrArg₂ ix2 (Fin.ext (by show 4 * t.val + r.val / 128 = (512 * t.val + r.val) / 128; omega))
    (Fin.ext (by show r.val % 128 = (512 * t.val + r.val) % 128; omega)))

/-- After the run the result array of the grid is `rows` of the arrays it read. -/
theorem arr_eq (c : Dev nD) : (dats m 0 c).arrAt 5 cfg0.N
    = fun i : S4096x1280.Idx => rows (V m c main_v0) (V m c main_v1) (V m c main_arg2) (V m c main_v2) (V m c main_v3) (i 0) (i 1) := by
  refine (dats m 0 c).arrAt_eq_of_covers 5 _ (by decide +kernel) fun t hf y => ?_
  blk_simp
  rw [after0_5]
  unfold outsAt0
  frame_out
  obtain ⟨-, -, -, -, -, e5⟩ := idx t
  refine (congrArg (k0_pay1 _ _ _ _ _) (eq_ix2 (show S512x1280.Idx from y))).trans
    ((block_eq m c t _ (y 0) (y 1)).trans (congrArg₂ (rows _ _ _ _ _) ?_ ?_))
  · refine Fin.ext ?_
    blk_simp [e5]
    show 512 * t.val + (y 0).val = t.val * 512 + (y 0).val
    omega
  · refine Fin.ext ?_
    blk_simp [e5]

end Cert.Hand

end
-- ==== Proof.Result.lean ====
/- The kernel's result at the end of a run, as a function of its arguments: the arrays the grid reads are the arguments laid out
   anew, and the result is the grid's array laid out anew. -/
module

public import proofs.«01_k».proof.Proof.Array
public import Idealize.ShloMosaic.Lib.Claim

@[expose] public section

set_option maxRecDepth 16384

noncomputable section

namespace Cert.Hand

open Cert.KernelIdeal Cert.KernelIdeal.Gen Idealize.ShloMosaic Idealize.ShloMosaic.TcCoe Idealize.SL.Sem
open Idealize.ShloMosaic.Pipeline (Dat)

/-- The kernel's result as a function of its arguments: `rows` of the arguments laid out as the grid reads them, in the result's
    own shape. -/
def result (x : Vec Ideal S4x1024x3584 .fp8e4m3) (xs : Vec Ideal S4x1024x1 .f32) (w : Vec Ideal S3584x1280 .fp8e4m3)
    (ws : Vec Ideal S1280 .f32) (res : Vec Ideal S4x1024x1280 .bf16) : Vec Ideal S4x1024x1280 .bf16 :=
  shapeCast S4x1024x1280 (fun i : S4096x1280.Idx =>
    rows (shapeCast S4096x3584 x shapeCasts_S4x1024x3584_S4096x3584) (shapeCast S32x128 xs shapeCasts_S4x1024x1_S32x128) w
      (shapeCast S10x128 ws shapeCasts_S1280_S10x128) (shapeCast S4096x1280 res shapeCasts_S4x1024x1280_S4096x1280) (i 0) (i 1) :
    Vec Ideal S4096x1280 .bf16) shapeCasts_S4096x1280_S4x1024x1280

variable (m : (ℓ : Loc nD τ sig) → Buf (Elt Ideal) ℓ) (ρ : Dev nD → PrngReg)

/-- The result buffer, once the line after the grid has run, is the grid's array laid out in the result's shape. -/
theorem tail_eq (c : Dev nD) : Pipeline.afterTail₀ cfgs (dats m) 0 (V0 m) [hostOps1] c main_v5
    = shapeCast S4x1024x1280 ((dats m 0 c).arrAt 5 cfg0.N : Vec Ideal S4096x1280 .bf16) shapeCasts_S4096x1280_S4x1024x1280 := by
  have h : Pipeline.withArrays (cfgs 0).spec c (V0 m c) (fun w => (dats m 0 c).arrAt w (cfgs 0).N) (Proc.devRef .tc main_v4)
      = (dats m 0 c).arrAt 5 cfg0.N :=
    Pipeline.withArrays_arr (cfgs 0).spec (by decide) c (V0 m c) (fun w => (dats m 0 c).arrAt w (cfgs 0).N) 5
  exact congrArg (fun X : Vec Ideal S4096x1280 .bf16 => shapeCast S4x1024x1280 X shapeCasts_S4096x1280_S4x1024x1280) h

/-- The result buffer at the end of the run is `result` of the arguments. -/
theorem result_eq (c : Dev nD) : Pipeline.afterTail₀ cfgs (dats m) 0 (V0 m) [hostOps1] c main_v5
    = result (m ((c : Thread nD τ).loc main_arg0)) (m ((c : Thread nD τ).loc main_arg1)) (m ((c : Thread nD τ).loc main_arg2))
        (m ((c : Thread nD τ).loc main_arg3)) (m ((c : Thread nD τ).loc main_arg4)) := by
  rw [tail_eq, arr_eq]
  rfl

/-- Every run of the kernel ends with `result` of the arguments in the result buffer and the arguments as they were. -/
theorem kernel_run : θ_run defs (onTc (τ := τ) (main (F := Ideal))) ⟨m, fun _ => 0, ρ⟩ fun r => ∀ c : Dev nD,
      r.2.mem ((c : Thread nD τ).loc main_v5)
        = result (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono
    (fun _ h c => ⟨((h.1 c).2 main_v5 (Pipeline.mem_restRefs_of main_v5 (by decide) (by decide))).trans (result_eq m c), h.2 c⟩)
    (θ_run_and (run_main m ρ) (unchanged m ρ))

end Cert.Hand

end
-- ==== Proof.Equation.lean ====
/- The equation between the two programs: the kernel's result and the reference's are the same function of the arguments. Both
   multiply and add in the same order, so that all there is to see is which element of which argument each of them reads. -/
module

public import proofs.«01_k».proof.Proof.Result
public import proofs.«01_k».proof.Proof.Gen.ReferenceIdeal.Value

@[expose] public section

set_option maxRecDepth 16384

noncomputable section

namespace Cert.Hand

open Idealize.ShloMosaic Idealize.SL.Sem
open Cert.KernelIdeal (S4x1024x3584 S4x1024x1 S3584x1280 S1280 S4x1024x1280)

/-- The reference's result at an index: row `(b, s)` of the activations times column `n` of the weights, times the row's scale,
    times the column's scale, plus the residual. -/
theorem reference_apply (x : Vec Ideal S4x1024x3584 .fp8e4m3) (xs : Vec Ideal S4x1024x1 .f32) (w : Vec Ideal S3584x1280 .fp8e4m3)
    (ws : Vec Ideal S1280 .f32) (res : Vec Ideal S4x1024x1280 .bf16) (b : Fin 4) (s : Fin 1024) (n : Fin 1280) :
    Cert.ReferenceIdeal.Value.G5 (F := Ideal) x xs w ws res (ix3 b s n) =
      ((∑ k : Fin 3584, (x (ix3 b s k) : EReal) * w (ix2 k n)) * xs (ix3 b s 0) * ws (ix1 n) + res (ix3 b s n) : EReal) := by
  pointwise [Cert.ReferenceIdeal.Value.G5, Cert.ReferenceIdeal.Gen.k0_pay1]

/-- The kernel's result at an index is the same expression: row `(b, s)` is row `1024 * b + s` of the 4096, and laying an array
    out anew keeps its elements' order. -/
theorem result_apply (x : Vec Ideal S4x1024x3584 .fp8e4m3) (xs : Vec Ideal S4x1024x1 .f32) (w : Vec Ideal S3584x1280 .fp8e4m3)
    (ws : Vec Ideal S1280 .f32) (res : Vec Ideal S4x1024x1280 .bf16) (b : Fin 4) (s : Fin 1024) (n : Fin 1280) :
    result x xs w ws res (ix3 b s n) =
      ((∑ k : Fin 3584, (x (ix3 b s k) : EReal) * w (ix2 k n)) * xs (ix3 b s 0) * ws (ix1 n) + res (ix3 b s n) : EReal) := by
  pointwise [result, rows]
  have hb : (b.val * 1024 + s.val) / 1024 = b.val := by omega
  have hs : (b.val * 1024 + s.val) % 1024 = s.val := by omega
  have hb' : (b.val * 1024 + s.val) / 128 / 8 = b.val := by omega
  have hs' : (b.val * 1024 + s.val) / 128 % 8 * 128 + (b.val * 1024 + s.val) % 128 = s.val := by omega
  simp only [hb, hs, hb', hs']

/-- The two results are one function of the arguments. -/
theorem result_eq_reference (x : Vec Ideal S4x1024x3584 .fp8e4m3) (xs : Vec Ideal S4x1024x1 .f32) (w : Vec Ideal S3584x1280 .fp8e4m3)
    (ws : Vec Ideal S1280 .f32) (res : Vec Ideal S4x1024x1280 .bf16) :
    result x xs w ws res = Cert.ReferenceIdeal.Value.G5 (F := Ideal) x xs w ws res := by
  funext j
  obtain ⟨b, s, n, rfl⟩ : ∃ b s n, j = ix3 b s n := ⟨_, _, _, eq_ix3 j⟩
  exact (result_apply x xs w ws res b s n).trans (reference_apply x xs w ws res b s n).symm

end Cert.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Equation
public import Idealize.ShloMosaic.Adequacy
public import Idealize.ShloMosaic.Init

@[expose] public section

noncomputable section

namespace Cert.Proof

open Idealize.ShloMosaic Idealize.SL.Sem Cert.Kernel

/-- All five claims: the three frames, the preservation of the kernel by its ideal reading, and the value claim. -/
theorem claim : Cert.Claim := ⟨Cert.Kernel.Gen.facts, Cert.KernelIdeal.Gen.facts, Cert.ReferenceIdeal.Gen.facts, by
  refine ⟨fun m ρ _ => Cert.Kernel.Gen.frame m ρ, fun m ρ _ => Cert.KernelIdeal.Gen.frame m ρ,
    fun m ρ _ => Cert.ReferenceIdeal.Gen.frame m ρ, trivial, ?_⟩
  intro m g m' g' _ hagree
  refine ⟨_, Cert.Hand.kernel_run m g, ?_⟩
  refine (θ_run _ _ _).mono (fun r h c => ⟨(h c).1.trans ?_, (h c).2⟩) (Cert.ReferenceIdeal.Value.run m' g')
  obtain ⟨h0, h1, h2, h3, h4⟩ := hagree c
  rw [h0, h1, h2, h3, h4]
  exact (Cert.Hand.result_eq_reference ..).symm⟩

end Cert.Proof

end
